-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x256 : Shape := ⟨2, ![10000, 256]⟩
abbrev S10000x10000 : Shape := ⟨2, ![10000, 10000]⟩
abbrev S0 : Shape := ⟨1, ![0]⟩
abbrev S_ : Shape := ⟨0, ![]⟩
abbrev S256x256 : Shape := ⟨2, ![256, 256]⟩
abbrev S256 : Shape := ⟨1, ![256]⟩
abbrev S256x64 : Shape := ⟨2, ![256, 64]⟩
abbrev S64 : Shape := ⟨1, ![64]⟩

class Facts : Prop where
  bcast_S_S10000x256 : S_.BroadcastsInDim S10000x256 (![] : Fin 0 → Fin S10000x256.rank)
  bcast_S_S10000x10000 : S_.BroadcastsInDim S10000x10000 (![] : Fin 0 → Fin S10000x10000.rank)
  bcast_S_S256x256 : S_.BroadcastsInDim S256x256 (![] : Fin 0 → Fin S256x256.rank)
  bcast_S_S256 : S_.BroadcastsInDim S256 (![] : Fin 0 → Fin S256.rank)
  bcast_S_S256x64 : S_.BroadcastsInDim S256x64 (![] : Fin 0 → Fin S256x64.rank)
  bcast_S_S64 : S_.BroadcastsInDim S64 (![] : Fin 0 → Fin S64.rank)

variable [Facts]

def fn {F : FTy → Type} [FloatOps F] (main_arg0 : FVec F S10000x256 .f32) (main_arg1 : FVec F S10000x10000 .f32) (main_arg2 : FVec F S0 .f32) (main_arg3 : IVec S_ 1) (main_arg4 : FVec F S256x256 .f32) (main_arg5 : FVec F S256 .f32) (main_arg6 : FVec F S256x64 .f32) (main_arg7 : FVec F S64 .f32) : IVec S10000x256 1 × IVec S10000x10000 1 × IVec S256x256 1 × IVec S256 1 × IVec S256x64 1 × IVec S64 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S256x256 .f32 := Host.absf main_arg4
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x64 .f32 := Host.absf main_arg6
  let main_cst_3 : FVec F S_ .f32 := constant S_ .f32 0x7F800000#32
  let main_v13 : FVec F S256x64 .f32 := broadcastInDim S256x64 ![] bcast_S_S256x64 main_cst_3
  let main_v14 : IVec S256x64 1 := cmpf .olt main_v12 main_v13
  let main_v15 : FVec F S64 .f32 := Host.absf main_arg7
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Kernel.lean ====
abbrev S10000x256 : Shape := ⟨2, ![10000, 256]⟩
abbrev S10000x10000 : Shape := ⟨2, ![10000, 10000]⟩
abbrev S0 : Shape := ⟨1, ![0]⟩
abbrev S_ : Shape := ⟨0, ![]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S5x400x10000 : Shape := ⟨3, ![5, 400, 10000]⟩
abbrev S400x256 : Shape := ⟨2, ![400, 256]⟩
abbrev S1x400x10000 : Shape := ⟨3, ![1, 400, 10000]⟩
abbrev S400 : Shape := ⟨1, ![400]⟩
abbrev S400x1 : Shape := ⟨2, ![400, 1]⟩
abbrev S10000x1 : Shape := ⟨2, ![10000, 1]⟩

abbrev nBuf : Space → Nat
  | .hbm => 13
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S0, .f32⟩
  | .hbm, ⟨3, _⟩ => ⟨S_, .i1⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x256, .f32⟩
  | .hbm, ⟨9, _⟩ => ⟨S1x64, .f32⟩
  | .hbm, ⟨10, _⟩ => ⟨S10000x64, .f32⟩
  | .hbm, ⟨11, _⟩ => ⟨S_, .f32⟩
  | .hbm, ⟨12, _⟩ => ⟨S10000x1, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S256x64, .f32⟩
  | .local _ .vmem, ⟨4, _⟩ => ⟨S1x64, .f32⟩
  | .local _ .vmem, ⟨5, _⟩ => ⟨S400x10000, .f32⟩
  | .local _ .vmem, ⟨6, _⟩ => ⟨S400x10000, .f32⟩
  | .local _ .vmem, ⟨7, _⟩ => ⟨S400x64, .f32⟩
  | .local _ .vmem, ⟨8, _⟩ => ⟨S400x64, .f32⟩
  | .local _ .vmem, ⟨9, _⟩ => ⟨S10000x64, .bf16⟩
  | .local _ .vmem, ⟨10, _⟩ => ⟨S5x400x10000, .fp8e4m3⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c400_i32 : BitVec 32 := 400#32
  let v28 : BitVec 32 := Scalar.muli arg0 c400_i32
  let v29 : Index := Scalar.indexCast v28
  let c0_17 : Index := 0#32
  ![v29.toNat, 0]
def k0_cond2 (i : grid0.Coords) : BitVec 1 :=
  let arg0 : BitVec 32 := BitVec.ofNat 32 (i 0).val
  let c5_i32 : BitVec 32 := 5#32
  let v3 : BitVec 1 := Scalar.cmpi .slt arg0 c5_i32
  let v4 : BitVec 32 := Scalar.extui v3
  let c0_i32_0 : BitVec 32 := 0#32
  let v5 : BitVec 1 := Scalar.cmpi .ne v4 c0_i32_0
  v5

def k0_off2 (i : grid0.Coords) : Fin 3 → Nat :=
  let arg0 : BitVec 32 := BitVec.ofNat 32 (i 0).val
  let v18 : Index := Scalar.indexCast arg0
  let c0_6 : Index := 0#32
  let c0_7 : Index := 0#32
  ![v18.toNat, 0, 0]
def k0_cond4 (i : grid0.Coords) : BitVec 1 :=
  let arg0 : BitVec 32 := BitVec.ofNat 32 (i 0).val
  let c45_i32_3 : BitVec 32 := 45#32
  let v11 : BitVec 1 := Scalar.cmpi .sge arg0 c45_i32_3
  let v12 : BitVec 32 := Scalar.extui v11
  let c0_i32_4 : BitVec 32 := 0#32
  let v13 : BitVec 1 := Scalar.cmpi .ne v12 c0_i32_4
  v13

def k0_off3 (i : grid0.Coords) : Fin 3 → Nat :=
  let c49_i32 : BitVec 32 := 49#32
  let arg0 : BitVec 32 := BitVec.ofNat 32 (i 0).val
  let v14 : BitVec 32 := Scalar.subi c49_i32 arg0
  let v15 : Index := Scalar.indexCast v14
  let c0 : Index := 0#32
  let c0_5 : Index := 0#32
  ![v15.toNat, 0, 0]
def k0_cond3 (i : grid0.Coords) : BitVec 1 :=
  let arg0 : BitVec 32 := BitVec.ofNat 32 (i 0).val
  let c25_i32_1 : BitVec 32 := 25#32
  let v6 : BitVec 1 := Scalar.cmpi .sge arg0 c25_i32_1
  let c45_i32 : BitVec 32 := 45#32
  let v7 : BitVec 1 := Scalar.cmpi .slt arg0 c45_i32
  let v8 : BitVec 1 := Scalar.andi v6 v7
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 1 := Scalar.cmpi .slt arg0 c25_i32
  let c45_i32 : BitVec 32 := 45#32
  let v1 : BitVec 1 := Scalar.cmpi .slt arg0 c45_i32
  let c49_i32 : BitVec 32 := 49#32
  let v2 : BitVec 32 := Scalar.subi c49_i32 arg0
  let c5_i32 : BitVec 32 := 5#32
  let v3 : BitVec 32 := Scalar.select v1 v2 c5_i32
  let v4 : BitVec 32 := Scalar.select v0 arg0 v3
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let c24_i32 : BitVec 32 := 24#32
  let v2 : BitVec 32 := Scalar.select v0 c24_i32 v1
  let c0_i32 : BitVec 32 := 0#32
  let c0_i32_0 : BitVec 32 := 0#32
  ![v2.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x256 : Shape := ⟨2, ![10000, 256]⟩
abbrev S10000x10000 : Shape := ⟨2, ![10000, 10000]⟩
abbrev S0 : Shape := ⟨1, ![0]⟩
abbrev S_ : Shape := ⟨0, ![]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S10000x1 : Shape := ⟨2, ![10000, 1]⟩
abbrev S10000x64 : Shape := ⟨2, ![10000, 64]⟩
abbrev S1x64 : Shape := ⟨2, ![1, 64]⟩
abbrev S10000 : Shape := ⟨1, ![10000]⟩

abbrev nBuf : Space → Nat
  | .hbm => 38
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S0, .f32⟩
  | .hbm, ⟨3, _⟩ => ⟨S_, .i1⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S10000x256, .f32⟩
  | .hbm, ⟨9, _⟩ => ⟨S10000x256, .f32⟩
  | .hbm, ⟨10, _⟩ => ⟨S1x256, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000x256, .f32⟩
  | .hbm, ⟨15, _⟩ => ⟨S10000x256, .f32⟩
  | .hbm, ⟨16, _⟩ => ⟨S_, .f32⟩
  | .hbm, ⟨17, _⟩ => ⟨S10000x1, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S10000x64, .f32⟩
  | .hbm, ⟨37, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v12 : Ref sig .tc := ⟨.hbm, 37, rfl⟩

abbrev nD : Nat := 1
abbrev τ : Topo := Topo.v7x

variable {F : FTy → Type} [FloatOps F]
-- ==== Proof.Setup.lean ====
/- The body's branch conditions in closed form, the memrefs its windows and scratches occupy, and the frame kit's
   invariant spelled with the two scratches as owned memrefs. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Claim

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first branch (build a tile of the hidden layer) is taken at the first twenty-five points. -/
theorem first_iff : ∀ t : Fin cfg0.N, k0_cond1 (grid0.coords t) = 1#1 ↔ t.val < 25 :=
  (by decide +kernel : ∀ t : Fin grid0.N, k0_cond1 (grid0.coords t) = 1#1 ↔ t.val < 25)
/-- The second branch (keep a scaled tile) is taken at the first five points. -/
theorem keep_iff : ∀ t : Fin cfg0.N, k0_cond2 (grid0.coords t) = 1#1 ↔ t.val < 5 :=
  (by decide +kernel : ∀ t : Fin grid0.N, k0_cond2 (grid0.coords t) = 1#1 ↔ t.val < 5)
/-- The third branch (an output tile from a fetched tile) is taken at points 25 to 44. -/
theorem fetched_iff : ∀ t : Fin cfg0.N, k0_cond3 (grid0.coords t) = 1#1 ↔ 25 ≤ t.val ∧ t.val < 45 :=
  (by decide +kernel : ∀ t : Fin grid0.N, k0_cond3 (grid0.coords t) = 1#1 ↔ 25 ≤ t.val ∧ t.val < 45)
/-- The last branch (an output tile from a kept tile) is taken from point 45 on. -/
theorem kept_iff : ∀ t : Fin cfg0.N, k0_cond4 (grid0.coords t) = 1#1 ↔ 45 ≤ t.val :=
  (by decide +kernel : ∀ t : Fin grid0.N, k0_cond4 (grid0.coords t) = 1#1 ↔ 45 ≤ t.val)

/-- The two scratches, whole. -/
abbrev scS : Memref sig .tc .vmem S10000x64 .bf16 := Memref.whole cc0_scratch0
abbrev scC : Memref sig .tc .vmem S5x400x10000 .fp8e4m3 := Memref.whole cc0_scratch1

/-- The frame kit's invariant: each scratch at some contents, and the generator register at some contents. -/
theorem kit_inv_eq (c : Dev nD) :
    (Pipeline.ΦA spec0 c : sProp 𝕄)
      = iprop(iprop((∃ d, owns (c : Thread nD τ) scS fullShare d) ∗ (∃ d, owns (c : Thread nD τ) scC fullShare d)) ∗ (∃ r, prngReg c r)) := by
  unfold Pipeline.ΦA; rw [scopedRest0_eq]; simp only [scS, scC, owns_whole]; try rfl

end Cert.KernelIdeal.Hand

end
-- ==== Proof.Runs.lean ====
/- The body's triple in each of its four cases: what it reads and what it leaves in the output's staging buffer and in
   the two scratches. -/
module

public import proofs.«01_k».proof.Proof.Setup
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x64 .bf16) (harg8 : arg8.IsWhole) (arg9 : Memref sig .tc .vmem S5x400x10000 .fp8e4m3) (harg9 : arg9.IsWhole)

/-- The nine operands of the body, each owned at the named contents. -/
def held (x0 : Vec F S10000x256 .f32) (x1 : Vec F S256x256 .f32) (x2 : Vec F S1x256 .f32) (x3 : Vec F S256x64 .f32) (x4 : Vec F S1x64 .f32) (x5 : Vec F S400x10000 .f32) (o : Vec F S400x64 .f32) (s : Vec F S10000x64 .bf16) (k : Vec F S5x400x10000 .fp8e4m3) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare s ∗ owns (c : Thread nD τ) arg9 fullShare k)

variable (x0 : Vec F S10000x256 .f32) (x1 : Vec F S256x256 .f32) (x2 : Vec F S1x256 .f32) (x3 : Vec F S256x64 .f32) (x4 : Vec F S1x64 .f32) (x5 : Vec F S400x10000 .f32) (o : Vec F S400x64 .f32) (s : Vec F S10000x64 .bf16) (k : Vec F S5x400x10000 .fp8e4m3)

/-- A load of a whole operand's own sizes reads its contents. -/
theorem read_all {s : Shape} {e : EltTy} (a : Memref sig .tc .vmem s e) (ha : a.IsWhole) (x : Vec F s e) {off : Fin s.rank → ℕ}
    (inb : ∀ d, off d + s.size d ≤ s.size d) : View.readAt (Elt F) a.view (Rect.unit off s.size inb).toLoadRect (ha.unread x) = x :=
  (View.readAt_full a.view _ _).trans (ha.read_unread x)

/-- Owning a whole operand at `x` is owning its buffer at the contents that read `x`. -/
theorem owns_buffer {s : Shape} {e : EltTy} (a : Memref sig .tc .vmem s e) (ha : a.IsWhole) (x : Vec F s e) :
    (owns (c : Thread nD τ) a fullShare x : sProp 𝕄) ⊢ (a.view.loc (c : Thread nD τ) ↦[a.view.set]{fullShare} ha.unread x) := by
  unfold owns
  iintro ⟨%f, %hf, H⟩
  obtain rfl := ha.eq_unread hf
  iexact H

/-- and the other way around. -/
theorem buffer_owns {s : Shape} {e : EltTy} (a : Memref sig .tc .vmem s e) (ha : a.IsWhole) (x : Vec F s e) :
    (a.view.loc (c : Thread nD τ) ↦[a.view.set]{fullShare} ha.unread x : sProp 𝕄) ⊢ owns (c : Thread nD τ) a fullShare x := by
  unfold owns
  iintro H
  iexists _; isplitr; · ipureintro; exact ha.read_unread x
  iexact H

/-- The nine operands held are the nine buffers owned. -/
theorem held_buffers : held c arg1 arg2 arg3 arg4 arg5 arg6 arg7 arg8 arg9 x0 x1 x2 x3 x4 x5 o s k ⊢ iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread o) ∗ (arg8.view.loc (c : Thread nD τ) ↦[arg8.view.set]{fullShare} harg8.unread s) ∗ (arg9.view.loc (c : Thread nD τ) ↦[arg9.view.set]{fullShare} harg9.unread k)) :=
  BIClass.sep_mono (owns_buffer c arg1 harg1 _) <|
    BIClass.sep_mono (owns_buffer c arg2 harg2 _) <|
    BIClass.sep_mono (owns_buffer c arg3 harg3 _) <|
    BIClass.sep_mono (owns_buffer c arg4 harg4 _) <|
    BIClass.sep_mono (owns_buffer c arg5 harg5 _) <|
    BIClass.sep_mono (owns_buffer c arg6 harg6 _) <|
    BIClass.sep_mono (owns_buffer c arg7 harg7 _) <|
    BIClass.sep_mono (owns_buffer c arg8 harg8 _) <|
    owns_buffer c arg9 harg9 _

/-- The six inputs' buffers with the output and the two scratches make the nine operands. -/
theorem inputs_held : iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ owns (c : Thread nD τ) arg7 fullShare o ∗ owns (c : Thread nD τ) arg8 fullShare s ∗ owns (c : Thread nD τ) arg9 fullShare k) ⊢ held c arg1 arg2 arg3 arg4 arg5 arg6 arg7 arg8 arg9 x0 x1 x2 x3 x4 x5 o s k :=
  BIClass.sep_mono (buffer_owns c arg1 harg1 _) <|
    BIClass.sep_mono (buffer_owns c arg2 harg2 _) <|
    BIClass.sep_mono (buffer_owns c arg3 harg3 _) <|
    BIClass.sep_mono (buffer_owns c arg4 harg4 _) <|
    BIClass.sep_mono (buffer_owns c arg5 harg5 _) <|
    BIClass.sep_mono (buffer_owns c arg6 harg6 _) <| .rfl

set_option maxHeartbeats 1000000 in
/-- The body where it takes the first and second branches (a tile of the hidden layer stored, the scaled tile kept). -/
theorem run_build_keep (h1 : k0_cond1 i = 1#1) (h2 : k0_cond2 i = 1#1) (h3 : ¬ k0_cond3 i = 1#1) (h4 : ¬ k0_cond4 i = 1#1) (E : Set ℕ) (K : PUnit → sProp 𝕄) :
    iprop(held c arg1 arg2 arg3 arg4 arg5 arg6 arg7 arg8 arg9 x0 x1 x2 x3 x4 x5 o s k ∗ (held c arg1 arg2 arg3 arg4 arg5 arg6 arg7 arg8 arg9 x0 x1 x2 x3 x4 x5 o (VecWindow.put s (k0_off1 i) S400x64.size (k0_pay1 x5 x0 x1 x2 x3)) (VecWindow.put k (k0_off2 i) S1x400x10000.size (k0_pay2 x5)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
    simp only [cc0__body_eq_skeleton]; unfold cc0__body_skel
    iintro ⟨H, Hk⟩
    icases (held_buffers c arg1 harg1 arg2 harg2 arg3 harg3 arg4 harg4 arg5 harg5 arg6 harg6 arg7 harg7 arg8 harg8 arg9 harg9 x0 x1 x2 x3 x4 x5 o s k) $$ H with ⟨H0, H1, H2, H3, H4, H5, H6, H7, H8⟩
    have e0 := read_all arg1 harg1 x0 inb_S10000x256_S10000x256_0_0
    have e1 := read_all arg2 harg2 x1 inb_S256x256_S256x256_0_0
    have e2 := read_all arg3 harg3 x2 inb_S1x256_S1x256_0_0
    have e3 := read_all arg4 harg4 x3 inb_S256x64_S256x64_0_0
    have e4 := read_all arg5 harg5 x4 inb_S1x64_S1x64_0_0
    have e5 := read_all arg6 harg6 x5 inb_S400x10000_S400x10000_0_0
    have e7 := read_all arg8 harg8 s inb_S10000x64_S10000x64_0_0
    sl_exec (disch := first | sl_exact h1 | sl_exact h2 | sl_exact h3 | sl_exact h4)
    sl_step
    iapply Hk
    iapply (inputs_held c arg1 harg1 arg2 harg2 arg3 harg3 arg4 harg4 arg5 harg5 arg6 harg6 arg7 arg8 arg9 x0 x1 x2 x3 x4 x5 _ _ _)
    iframe H0 H1 H2 H3 H4 H5
    isplitl [H6]
    · iapply (buffer_owns c arg7 harg7 _); iexact H6
    isplitl [H7]
    · unfold owns; iexists _; isplitr; swap; · iexact H7
      ipureintro
      rw [View.read_writes_cons_put _ _ _ _ _ rfl, View.writes_nil, harg8.read_unread]
    unfold owns; iexists _; isplitr; swap; · iexact H8
    ipureintro
    rw [View.read_writes_cons_put _ _ _ _ _ rfl, View.writes_nil, harg9.read_unread]

set_option maxHeartbeats 1000000 in
/-- The body where it takes the first branch alone (a tile of the hidden layer stored). -/
theorem run_build (h1 : k0_cond1 i = 1#1) (h2 : ¬ k0_cond2 i = 1#1) (h3 : ¬ k0_cond3 i = 1#1) (h4 : ¬ k0_cond4 i = 1#1) (E : Set ℕ) (K : PUnit → sProp 𝕄) :
    iprop(held c arg1 arg2 arg3 arg4 arg5 arg6 arg7 arg8 arg9 x0 x1 x2 x3 x4 x5 o s k ∗ (held c arg1 arg2 arg3 arg4 arg5 arg6 arg7 arg8 arg9 x0 x1 x2 x3 x4 x5 o (VecWindow.put s (k0_off1 i) S400x64.size (k0_pay1 x5 x0 x1 x2 x3)) k -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
    simp only [cc0__body_eq_skeleton]; unfold cc0__body_skel
    iintro ⟨H, Hk⟩
    icases (held_buffers c arg1 harg1 arg2 harg2 arg3 harg3 arg4 harg4 arg5 harg5 arg6 harg6 arg7 harg7 arg8 harg8 arg9 harg9 x0 x1 x2 x3 x4 x5 o s k) $$ H with ⟨H0, H1, H2, H3, H4, H5, H6, H7, H8⟩
    have e0 := read_all arg1 harg1 x0 inb_S10000x256_S10000x256_0_0
    have e1 := read_all arg2 harg2 x1 inb_S256x256_S256x256_0_0
    have e2 := read_all arg3 harg3 x2 inb_S1x256_S1x256_0_0
    have e3 := read_all arg4 harg4 x3 inb_S256x64_S256x64_0_0
    have e4 := read_all arg5 harg5 x4 inb_S1x64_S1x64_0_0
    have e5 := read_all arg6 harg6 x5 inb_S400x10000_S400x10000_0_0
    have e7 := read_all arg8 harg8 s inb_S10000x64_S10000x64_0_0
    sl_exec (disch := first | sl_exact h1 | sl_exact h2 | sl_exact h3 | sl_exact h4)
    sl_step
    iapply Hk
    iapply (inputs_held c arg1 harg1 arg2 harg2 arg3 harg3 arg4 harg4 arg5 harg5 arg6 harg6 arg7 arg8 arg9 x0 x1 x2 x3 x4 x5 _ _ _)
    iframe H0 H1 H2 H3 H4 H5
    isplitl [H6]
    · iapply (buffer_owns c arg7 harg7 _); iexact H6
    isplitl [H7]
    · unfold owns; iexists _; isplitr; swap; · iexact H7
      ipureintro
      rw [View.read_writes_cons_put _ _ _ _ _ rfl, View.writes_nil, harg8.read_unread]
    iapply (buffer_owns c arg9 harg9 _); iexact H8

set_option maxHeartbeats 1000000 in
/-- The body where it takes the third branch (an output tile from the fetched tile). -/
theorem run_out_fetched (h1 : ¬ k0_cond1 i = 1#1) (h2 : ¬ k0_cond2 i = 1#1) (h3 : k0_cond3 i = 1#1) (h4 : ¬ k0_cond4 i = 1#1) (E : Set ℕ) (K : PUnit → sProp 𝕄) :
    iprop(held c arg1 arg2 arg3 arg4 arg5 arg6 arg7 arg8 arg9 x0 x1 x2 x3 x4 x5 o s k ∗ (held c arg1 arg2 arg3 arg4 arg5 arg6 arg7 arg8 arg9 x0 x1 x2 x3 x4 x5 (k0_pay3 x5 s x4) s k -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
    simp only [cc0__body_eq_skeleton]; unfold cc0__body_skel
    iintro ⟨H, Hk⟩
    icases (held_buffers c arg1 harg1 arg2 harg2 arg3 harg3 arg4 harg4 arg5 harg5 arg6 harg6 arg7 harg7 arg8 harg8 arg9 harg9 x0 x1 x2 x3 x4 x5 o s k) $$ H with ⟨H0, H1, H2, H3, H4, H5, H6, H7, H8⟩
    have e0 := read_all arg1 harg1 x0 inb_S10000x256_S10000x256_0_0
    have e1 := read_all arg2 harg2 x1 inb_S256x256_S256x256_0_0
    have e2 := read_all arg3 harg3 x2 inb_S1x256_S1x256_0_0
    have e3 := read_all arg4 harg4 x3 inb_S256x64_S256x64_0_0
    have e4 := read_all arg5 harg5 x4 inb_S1x64_S1x64_0_0
    have e5 := read_all arg6 harg6 x5 inb_S400x10000_S400x10000_0_0
    have e7 := read_all arg8 harg8 s inb_S10000x64_S10000x64_0_0
    sl_exec (disch := first | sl_exact h1 | sl_exact h2 | sl_exact h3 | sl_exact h4)
    sl_step
    iapply Hk
    iapply (inputs_held c arg1 harg1 arg2 harg2 arg3 harg3 arg4 harg4 arg5 harg5 arg6 harg6 arg7 arg8 arg9 x0 x1 x2 x3 x4 x5 _ _ _)
    iframe H0 H1 H2 H3 H4 H5
    isplitl [H6]
    · unfold owns; iexists _; isplitr; swap; · iexact H6
      ipureintro
      rw [View.read_writes_full]
    isplitl [H7]
    · iapply (buffer_owns c arg8 harg8 _); iexact H7
    iapply (buffer_owns c arg9 harg9 _); iexact H8

set_option maxHeartbeats 1000000 in
/-- The body where it takes the last branch (an output tile from a kept tile). -/
theorem run_out_kept (h1 : ¬ k0_cond1 i = 1#1) (h2 : ¬ k0_cond2 i = 1#1) (h3 : ¬ k0_cond3 i = 1#1) (h4 : k0_cond4 i = 1#1) (E : Set ℕ) (K : PUnit → sProp 𝕄) :
    iprop(held c arg1 arg2 arg3 arg4 arg5 arg6 arg7 arg8 arg9 x0 x1 x2 x3 x4 x5 o s k ∗ (held c arg1 arg2 arg3 arg4 arg5 arg6 arg7 arg8 arg9 x0 x1 x2 x3 x4 x5 (k0_pay4 (VecWindow.window k (k0_off3 i) S1x400x10000.size (k0_off3_inb i h4)) s x4) s k -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
    simp only [cc0__body_eq_skeleton]; unfold cc0__body_skel
    iintro ⟨H, Hk⟩
    icases (held_buffers c arg1 harg1 arg2 harg2 arg3 harg3 arg4 harg4 arg5 harg5 arg6 harg6 arg7 harg7 arg8 harg8 arg9 harg9 x0 x1 x2 x3 x4 x5 o s k) $$ H with ⟨H0, H1, H2, H3, H4, H5, H6, H7, H8⟩
    have e0 := read_all arg1 harg1 x0 inb_S10000x256_S10000x256_0_0
    have e1 := read_all arg2 harg2 x1 inb_S256x256_S256x256_0_0
    have e2 := read_all arg3 harg3 x2 inb_S1x256_S1x256_0_0
    have e3 := read_all arg4 harg4 x3 inb_S256x64_S256x64_0_0
    have e4 := read_all arg5 harg5 x4 inb_S1x64_S1x64_0_0
    have e5 := read_all arg6 harg6 x5 inb_S400x10000_S400x10000_0_0
    have e7 := read_all arg8 harg8 s inb_S10000x64_S10000x64_0_0
    sl_exec (disch := first | sl_exact h1 | sl_exact h2 | sl_exact h3 | sl_exact h4)
    sl_step
    iapply Hk
    iapply (inputs_held c arg1 harg1 arg2 harg2 arg3 harg3 arg4 harg4 arg5 harg5 arg6 harg6 arg7 arg8 arg9 x0 x1 x2 x3 x4 x5 _ _ _)
    iframe H0 H1 H2 H3 H4 H5
    isplitl [H6]
    · unfold owns; iexists _; isplitr; swap; · iexact H6
      ipureintro
      rw [View.read_writes_full]
      rw [View.readAt_unit arg9.view _ _ rfl (k0_off3_inb i h4), harg9.read_unread]
    isplitl [H7]
    · iapply (buffer_owns c arg8 harg8 _); iexact H7
    iapply (buffer_owns c arg9 harg9 _); iexact H8

end Cert.KernelIdeal.Hand

end
-- ==== Proof.Pipe.lean ====
/- The kernel's proof data: the hidden layer the first scratch fills with, the tiles the second scratch keeps, the
   invariant that carries both from point to point, and the body's obligation at every point. -/
module

public import proofs.«01_k».proof.Proof.Runs
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Offsets and schedule in closed form -/

/-- The hidden-layer tile of point `t` starts at row `400 t`. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
/-- The kept tile of point `t` goes to slot `t`. -/
theorem off2_eq : ∀ t : Fin cfg0.N, t.val < 5 → k0_off2 (grid0.coords t) = ![t.val, 0, 0] :=
  (by decide +kernel : ∀ t : Fin grid0.N, t.val < 5 → k0_off2 (grid0.coords t) = ![t.val, 0, 0])
/-- The kept tile read at point `t` is slot `49 - t`. -/
theorem off3_eq : ∀ t : Fin cfg0.N, 45 ≤ t.val → k0_off3 (grid0.coords t) = ![49 - t.val, 0, 0] :=
  (by decide +kernel : ∀ t : Fin grid0.N, 45 ≤ t.val → k0_off3 (grid0.coords t) = ![49 - t.val, 0, 0])
/-- The output window is idle exactly while the hidden layer is built, -/
theorem idle_out : ∀ t : Fin cfg0.N, t.val < 25 → cfg0.idle 6 (grid0.coords t) = true :=
  (by decide +kernel : ∀ t : Fin grid0.N, t.val < 25 → idle0 6 (grid0.coords t) = true)
theorem live_out : ∀ t : Fin cfg0.N, 25 ≤ t.val → cfg0.idle 6 (grid0.coords t) = false :=
  (by decide +kernel : ∀ t : Fin grid0.N, 25 ≤ t.val → idle0 6 (grid0.coords t) = false)
/-- and is written back exactly afterwards. -/
theorem flush_out : ∀ t : Fin cfg0.N, t.val < 25 → (cfg0.win 6).flush t = false :=
  (by decide +kernel : ∀ t : Fin grid0.N, t.val < 25 → win0_6.flush t = false)

theorem lt_fifty (t : Fin cfg0.N) : t.val < 50 := lt_of_lt_of_eq t.isLt (show cfg0.N = 50 from N_0)
/-- A grid point by its number. -/
def pt (n : ℕ) (h : n < 50) : Fin cfg0.N := ⟨n, lt_of_lt_of_eq h (show 50 = cfg0.N from N_0.symm)⟩

/-! ## What the two scratches fill with -/

/-- The tile of the hidden layer built at point `t`. -/
abbrev tileS (c : Dev nD) (t : Fin cfg0.N) : Vec F S400x64 .bf16 :=
  k0_pay1 (iblk m c 5 t) (iblk m c 0 t) (iblk m c 1 t) (iblk m c 2 t) (iblk m c 3 t)
/-- The scaled tile kept at point `t`. -/
abbrev tileC (c : Dev nD) (t : Fin cfg0.N) : Vec F S1x400x10000 .fp8e4m3 := k0_pay2 (iblk m c 5 t)

theorem row_lt (y : S10000x64.Idx) : (y 0).val / 400 < 50 := by have : (y 0).val < 10000 := (y 0).isLt; omega
/-- The whole hidden layer: row `r` is row `r % 400` of the tile built at point `r / 400`. -/
def hidden (c : Dev nD) : Vec F S10000x64 .bf16 := fun y =>
  tileS m c (pt ((y 0).val / 400) (row_lt y)) (ix2 (n0 := 400) (n1 := 64) ⟨(y 0).val % 400, Nat.mod_lt _ (by decide)⟩ (y 1))

/-- Below row `400 n` the scratch holds the hidden layer. -/
def builtTo (c : Dev nD) (n : ℕ) (s : Vec F S10000x64 .bf16) : Prop := ∀ y : S10000x64.Idx, (y 0).val < 400 * n → s y = hidden m c y
/-- The slots below `n` hold the kept tiles. -/
def keptTo (c : Dev nD) (n : ℕ) (k : Vec F S5x400x10000 .fp8e4m3) : Prop :=
  ∀ (y : S5x400x10000.Idx) (h : (y 0).val < 50), (y 0).val < n → k y = tileC m c (pt (y 0).val h) (ix3 (n0 := 1) (n1 := 400) (n2 := 10000) 0 (y 1) (y 2))

theorem builtTo_full {c : Dev nD} {n : ℕ} {s : Vec F S10000x64 .bf16} (h : builtTo m c n s) (hn : 25 ≤ n) : s = hidden m c :=
  funext fun y => h y (by have : (y 0).val < 10000 := (y 0).isLt; omega)

/-- A store of point `t`'s tile extends the built part by one tile. -/
theorem builtTo_put {c : Dev nD} (t : Fin cfg0.N) (ht : t.val < 25) {s : Vec F S10000x64 .bf16} (h : builtTo m c t.val s) :
    builtTo m c (t.val + 1) (VecWindow.put s (k0_off1 (grid0.coords t)) S400x64.size (tileS m c t)) := by
  intro y hy
  rw [off1_eq t ht]
  unfold VecWindow.put
  by_cases hb : (y 0).val < 400 * t.val
  · rw [dif_neg]
    · exact h y hb
    · intro hall
      have h0 : 400 * t.val ≤ (y 0).val := (hall 0).1
      omega
  · have hin : ∀ a : Fin S10000x64.rank, (![400 * t.val, 0] : Fin 2 → ℕ) a ≤ (y a).val ∧ (y a).val < (![400 * t.val, 0] : Fin 2 → ℕ) a + S400x64.size a := by
      intro a
      match a with
      | ⟨0, _⟩ => exact ⟨by show 400 * t.val ≤ (y 0).val; omega, by show (y 0).val < 400 * t.val + 400; omega⟩
      | ⟨1, _⟩ => exact ⟨Nat.zero_le _, by show (y 1).val < 0 + 64; have : (y 1).val < 64 := (y 1).isLt; omega⟩
    rw [dif_pos hin]
    unfold hidden
    have e : pt ((y 0).val / 400) (row_lt y) = t := Fin.ext (by show (y 0).val / 400 = t.val; omega)
    rw [e]
    refine congrArg (tileS m c t) (funext fun a => Fin.ext ?_)
    match a with
    | ⟨0, _⟩ => show (y 0).val - 400 * t.val = (y 0).val % 400; omega
    | ⟨1, _⟩ => show (y 1).val - 0 = (y 1).val; omega

/-- A store of point `t`'s scaled tile extends the kept slots by one. -/
theorem keptTo_put {c : Dev nD} (t : Fin cfg0.N) (ht : t.val < 5) {k : Vec F S5x400x10000 .fp8e4m3} (h : keptTo m c t.val k) :
    keptTo m c (t.val + 1) (VecWindow.put k (k0_off2 (grid0.coords t)) S1x400x10000.size (tileC m c t)) := by
  intro y h50 hy
  rw [off2_eq t ht]
  unfold VecWindow.put
  by_cases hb : (y 0).val < t.val
  · rw [dif_neg]
    · exact h y h50 hb
    · intro hall
      have h0 : t.val ≤ (y 0).val := (hall 0).1
      omega
  · have hin : ∀ a : Fin S5x400x10000.rank, (![t.val, 0, 0] : Fin 3 → ℕ) a ≤ (y a).val ∧ (y a).val < (![t.val, 0, 0] : Fin 3 → ℕ) a + S1x400x10000.size a := by
      intro a
      match a with
      | ⟨0, _⟩ => exact ⟨by show t.val ≤ (y 0).val; omega, by show (y 0).val < t.val + 1; omega⟩
      | ⟨1, _⟩ => exact ⟨Nat.zero_le _, by show (y 1).val < 0 + 400; have : (y 1).val < 400 := (y 1).isLt; omega⟩
      | ⟨2, _⟩ => exact ⟨Nat.zero_le _, by show (y 2).val < 0 + 10000; have : (y 2).val < 10000 := (y 2).isLt; omega⟩
    rw [dif_pos hin]
    have e : pt (y 0).val h50 = t := Fin.ext (by show (y 0).val = t.val; omega)
    rw [e]
    refine congrArg (tileC m c t) (funext fun a => Fin.ext ?_)
    match a with
    | ⟨0, _⟩ => show (y 0).val - t.val = 0; omega
    | ⟨1, _⟩ => show (y 1).val - 0 = (y 1).val; omega
    | ⟨2, _⟩ => show (y 2).val - 0 = (y 2).val; omega

/-- Reading slot `49 - t` back gives the tile kept at point `49 - t`. -/
theorem keptTo_window {c : Dev nD} (t : Fin cfg0.N) (ht : 45 ≤ t.val) {n : ℕ} (hn : 5 ≤ n) {k : Vec F S5x400x10000 .fp8e4m3} (h : keptTo m c n k)
    (inb : ∀ a, (k0_off3 (grid0.coords t)) a + S1x400x10000.size a ≤ S5x400x10000.size a) :
    VecWindow.window k (k0_off3 (grid0.coords t)) S1x400x10000.size inb = tileC m c (pt (49 - t.val) (by omega)) := by
  have hN := lt_fifty t
  funext z
  unfold VecWindow.window
  have hz : (z 0).val < 1 := (z 0).isLt
  have ev : ∀ a : Fin 3, ((Rect.unit (s := S5x400x10000) (k0_off3 (grid0.coords t)) S1x400x10000.size inb).emb z a).val = (![49 - t.val, 0, 0] : Fin 3 → ℕ) a + 1 * (z a).val := fun a => by
    exact congrArg (· + 1 * (z a).val) (congrFun (off3_eq t ht) a)
  have e0 := ev 0
  have e0' : ((Rect.unit (s := S5x400x10000) (k0_off3 (grid0.coords t)) S1x400x10000.size inb).emb z 0).val = 49 - t.val := by
    rw [e0]; show 49 - t.val + 1 * (z 0).val = 49 - t.val; omega
  rw [h _ (by rw [e0']; omega) (by rw [e0']; omega)]
  have ep : ∀ hh, pt ((Rect.unit (s := S5x400x10000) (k0_off3 (grid0.coords t)) S1x400x10000.size inb).emb z 0).val hh = pt (49 - t.val) (by omega) := fun hh => Fin.ext e0'
  rw [ep]
  refine congrArg (tileC m c (pt (49 - t.val) (by omega))) (funext fun a => Fin.ext ?_)
  match a with
  | ⟨0, _⟩ => show 0 = (z 0).val; omega
  | ⟨1, _⟩ => exact (ev 1).trans (by show 0 + 1 * (z 1).val = (z 1).val; omega)
  | ⟨2, _⟩ => exact (ev 2).trans (by show 0 + 1 * (z 2).val = (z 2).val; omega)

end Cert.KernelIdeal.Hand

end
-- ==== Proof.Launched.lean ====
/- The launch: the proof data with the invariant that carries the two scratches from point to point, the body's
   obligation at every point, and the run of the idealized kernel. -/
module

public import proofs.«01_k».proof.Proof.Pipe
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- Before point `n`: the hidden layer built up to tile `n` (at most 25), the tiles kept up to slot `n` (at most 5), the
    generator register at anything. -/
def carried (c : Dev nD) (n : ℕ) : sProp 𝕄 :=
  iprop((∃ s k, ⌜builtTo m c (min n 25) s ∧ keptTo m c (min n 5) k⌝ ∗ owns (c : Thread nD τ) scS fullShare s ∗ owns (c : Thread nD τ) scC fullShare k) ∗ (∃ r, prngReg c r))

/-- What the body leaves in the output's buffer at point `t`: from point 45 on computed from a kept tile, before that from the fetched one. -/
def outTile (c : Dev nD) (t : Fin cfg0.N) : Vec F S400x64 .f32 :=
  if 45 ≤ t.val then k0_pay4 (tileC m c (pt (49 - t.val) (by omega))) (hidden m c) (iblk m c 4 t)
  else k0_pay3 (iblk m c 5 t) (hidden m c) (iblk m c 4 t)

/-- The proof data: arrays as the region finds them, every input's buffer at its block, the output's at `outTile`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile m c t
  Φ t := carried m c t.val
  q _ := fullShare
  owed _ := 0

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = outTile m c t := by dsimp only [data]
theorem before_0 (c : Dev nD) (t : Fin cfg0.N) (d) : (data m 0 c).before 0 t d = iblk m c 0 t := before0_0_of m (data m 0 c) (data_A m c 0) (after_0 m c) t d
theorem before_1 (c : Dev nD) (t : Fin cfg0.N) (d) : (data m 0 c).before 1 t d = iblk m c 1 t := before0_1_of m (data m 0 c) (data_A m c 1) (after_1 m c) t d
theorem before_2 (c : Dev nD) (t : Fin cfg0.N) (d) : (data m 0 c).before 2 t d = iblk m c 2 t := before0_2_of m (data m 0 c) (data_A m c 2) (after_2 m c) t d
theorem before_3 (c : Dev nD) (t : Fin cfg0.N) (d) : (data m 0 c).before 3 t d = iblk m c 3 t := before0_3_of m (data m 0 c) (data_A m c 3) (after_3 m c) t d
theorem before_4 (c : Dev nD) (t : Fin cfg0.N) (d) : (data m 0 c).before 4 t d = iblk m c 4 t := before0_4_of m (data m 0 c) (data_A m c 4) (after_4 m c) t d
theorem before_5 (c : Dev nD) (t : Fin cfg0.N) (d) : (data m 0 c).before 5 t d = iblk m c 5 t := before0_5_of m (data m 0 c) (data_A m c 5) (after_5 m c) t d

/-! ## The body at a point -/

/-- Window 0's staging memref at point `t`. -/
abbrev stg0 (t : Fin cfg0.N) : Memref sig .tc .vmem S10000x256 .f32 := win0_0.stage (cfg0.slots t 0)
abbrev hstg0 (t : Fin cfg0.N) : (stg0 t).IsWhole := hstage0_0 ((cfg0.slots t 0).cast nbuf0_0)
/-- Window 1's staging memref at point `t`. -/
abbrev stg1 (t : Fin cfg0.N) : Memref sig .tc .vmem S256x256 .f32 := win0_1.stage (cfg0.slots t 1)
abbrev hstg1 (t : Fin cfg0.N) : (stg1 t).IsWhole := hstage0_1 ((cfg0.slots t 1).cast nbuf0_1)
/-- Window 2's staging memref at point `t`. -/
abbrev stg2 (t : Fin cfg0.N) : Memref sig .tc .vmem S1x256 .f32 := win0_2.stage (cfg0.slots t 2)
abbrev hstg2 (t : Fin cfg0.N) : (stg2 t).IsWhole := hstage0_2 ((cfg0.slots t 2).cast nbuf0_2)
/-- Window 3's staging memref at point `t`. -/
abbrev stg3 (t : Fin cfg0.N) : Memref sig .tc .vmem S256x64 .f32 := win0_3.stage (cfg0.slots t 3)
abbrev hstg3 (t : Fin cfg0.N) : (stg3 t).IsWhole := hstage0_3 ((cfg0.slots t 3).cast nbuf0_3)
/-- Window 4's staging memref at point `t`. -/
abbrev stg4 (t : Fin cfg0.N) : Memref sig .tc .vmem S1x64 .f32 := win0_4.stage (cfg0.slots t 4)
abbrev hstg4 (t : Fin cfg0.N) : (stg4 t).IsWhole := hstage0_4 ((cfg0.slots t 4).cast nbuf0_4)
/-- Window 5's staging memref at point `t`. -/
abbrev stg5 (t : Fin cfg0.N) : Memref sig .tc .vmem S400x10000 .f32 := win0_5.stage (cfg0.slots t 5)
abbrev hstg5 (t : Fin cfg0.N) : (stg5 t).IsWhole := hstage0_5 ((cfg0.slots t 5).cast nbuf0_5)
/-- Window 6's staging memref at point `t`. -/
abbrev stg6 (t : Fin cfg0.N) : Memref sig .tc .vmem S400x64 .f32 := win0_6.stage (cfg0.slots t 6)
abbrev hstg6 (t : Fin cfg0.N) : (stg6 t).IsWhole := hstage0_6 ((cfg0.slots t 6).cast nbuf0_6)
theorem leaves_0 (c : Dev nD) (t : Fin cfg0.N) : (data m 0 c).leavesExact 0 t = owns (c : Thread nD τ) (stg0 t) fullShare (iblk m c 0 t) := by
  unfold Dat.leavesExact; rw [show cfg0.idle 0 (cfg0.grid.coords t) = false from rfl, after_0]
theorem leaves_1 (c : Dev nD) (t : Fin cfg0.N) : (data m 0 c).leavesExact 1 t = owns (c : Thread nD τ) (stg1 t) fullShare (iblk m c 1 t) := by
  unfold Dat.leavesExact; rw [show cfg0.idle 1 (cfg0.grid.coords t) = false from rfl, after_1]
theorem leaves_2 (c : Dev nD) (t : Fin cfg0.N) : (data m 0 c).leavesExact 2 t = owns (c : Thread nD τ) (stg2 t) fullShare (iblk m c 2 t) := by
  unfold Dat.leavesExact; rw [show cfg0.idle 2 (cfg0.grid.coords t) = false from rfl, after_2]
theorem leaves_3 (c : Dev nD) (t : Fin cfg0.N) : (data m 0 c).leavesExact 3 t = owns (c : Thread nD τ) (stg3 t) fullShare (iblk m c 3 t) := by
  unfold Dat.leavesExact; rw [show cfg0.idle 3 (cfg0.grid.coords t) = false from rfl, after_3]
theorem leaves_4 (c : Dev nD) (t : Fin cfg0.N) : (data m 0 c).leavesExact 4 t = owns (c : Thread nD τ) (stg4 t) fullShare (iblk m c 4 t) := by
  unfold Dat.leavesExact; rw [show cfg0.idle 4 (cfg0.grid.coords t) = false from rfl, after_4]
theorem leaves_5 (c : Dev nD) (t : Fin cfg0.N) : (data m 0 c).leavesExact 5 t = owns (c : Thread nD τ) (stg5 t) fullShare (iblk m c 5 t) := by
  unfold Dat.leavesExact; rw [show cfg0.idle 5 (cfg0.grid.coords t) = false from rfl, after_5]
theorem leaves_6_idle (c : Dev nD) (t : Fin cfg0.N) (h : t.val < 25) :
    (data m 0 c).leavesExact 6 t = iprop(∃ d, owns (c : Thread nD τ) (stg6 t) fullShare ((data m 0 c).before 6 t d)) :=
  Pipeline.Dat.leavesExact_idle _ 6 t (idle_out t h) (flush_out t h)
theorem leaves_6 (c : Dev nD) (t : Fin cfg0.N) (h : 25 ≤ t.val) :
    (data m 0 c).leavesExact 6 t = owns (c : Thread nD τ) (stg6 t) fullShare (outTile m c t) := by
  unfold Dat.leavesExact; rw [show cfg0.idle 6 (cfg0.grid.coords t) = false from live_out t h, after_6]

/-- What the body is called with at point `t`, -/
def ptPre (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d)))
/-- and what it returns. -/
def ptPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t)

set_option maxHeartbeats 3200000 in
/-- The body at any point takes what it is called with to what it returns: the closed forms of the branch conditions pick
    its case, and the case's run applies. -/
theorem body_at (c : Dev nD) (t : Fin cfg0.N) :
    ptPre m c t ⊢ wp frame (wpE (defs₀ (F := F)) Variants.none c none) Set.univ (bodyAt0 t) (fun _ => ptPost m c t) := by
  unfold ptPre ptPost bodyAt0
  simp only [before_0, before_1, before_2, before_3, before_4, before_5, leaves_0, leaves_1, leaves_2, leaves_3, leaves_4, leaves_5]
  rw [show (data m 0 c).owesAt () t.succ = (data m 0 c).owesAt () t.castSucc from rfl,
    show (data m 0 c).Φ t.succ = carried m c (t.val + 1) from rfl, show (data m 0 c).Φ t.castSucc = carried m c t.val from rfl]
  unfold carried
  have hN := lt_fifty t
  by_cases h1 : t.val < 25
  · have n3 : ¬ k0_cond3 (grid0.coords t) = 1#1 := fun h => by have := (fetched_iff t).mp h; omega
    have n4 : ¬ k0_cond4 (grid0.coords t) = 1#1 := fun h => by have := (kept_iff t).mp h; omega
    have hmin : min t.val 25 = t.val := by omega
    have hmin' : min (t.val + 1) 25 = t.val + 1 := by omega
    by_cases h2 : t.val < 5
    · rw [leaves_6_idle m c t h1]
      iintro ⟨⟨⟨%s, %k, %hsk, HS, HC⟩, Hg⟩, Ho, ⟨%d0, H0⟩, ⟨%d1, H1⟩, ⟨%d2, H2⟩, ⟨%d3, H3⟩, ⟨%d4, H4⟩, ⟨%d5, H5⟩, ⟨%d6, H6⟩⟩
      obtain ⟨hs, hk⟩ := hsk
      have hs' := builtTo_put m t h1 (hmin ▸ hs)
      have hk' := keptTo_put m t h2 ((show min t.val 5 = t.val by omega) ▸ hk)
      iapply (run_build_keep c (grid0.coords t) (stg0 t) (hstg0 t) (stg1 t) (hstg1 t) (stg2 t) (hstg2 t) (stg3 t) (hstg3 t) (stg4 t) (hstg4 t) (stg5 t) (hstg5 t) (stg6 t) (hstg6 t) scS (Memref.isWhole_whole _) scC (Memref.isWhole_whole _) (iblk m c 0 t) (iblk m c 1 t) (iblk m c 2 t) (iblk m c 3 t) (iblk m c 4 t) (iblk m c 5 t) ((data m 0 c).before 6 t d6) s k ((first_iff t).mpr h1) ((keep_iff t).mpr h2) n3 n4 Set.univ _)
      unfold held
      iframe H0 H1 H2 H3 H4 H5 H6 HS HC
      iintro ⟨H0, H1, H2, H3, H4, H5, H6, HS, HC⟩
      isplitl [HS HC Hg]
      · isplitl [HS HC]
        · iexists _, _; isplitr; swap
          · isplitl [HS]; · iexact HS
            iexact HC
          ipureintro
          exact ⟨hmin'.symm ▸ hs', (show min (t.val + 1) 5 = t.val + 1 by omega).symm ▸ hk'⟩
        iexact Hg
      iframe Ho H0 H1 H2 H3 H4 H5
      iexists d6; iexact H6
    · rw [leaves_6_idle m c t h1]
      iintro ⟨⟨⟨%s, %k, %hsk, HS, HC⟩, Hg⟩, Ho, ⟨%d0, H0⟩, ⟨%d1, H1⟩, ⟨%d2, H2⟩, ⟨%d3, H3⟩, ⟨%d4, H4⟩, ⟨%d5, H5⟩, ⟨%d6, H6⟩⟩
      obtain ⟨hs, hk⟩ := hsk
      have hs' := builtTo_put m t h1 (hmin ▸ hs)
      iapply (run_build c (grid0.coords t) (stg0 t) (hstg0 t) (stg1 t) (hstg1 t) (stg2 t) (hstg2 t) (stg3 t) (hstg3 t) (stg4 t) (hstg4 t) (stg5 t) (hstg5 t) (stg6 t) (hstg6 t) scS (Memref.isWhole_whole _) scC (Memref.isWhole_whole _) (iblk m c 0 t) (iblk m c 1 t) (iblk m c 2 t) (iblk m c 3 t) (iblk m c 4 t) (iblk m c 5 t) ((data m 0 c).before 6 t d6) s k ((first_iff t).mpr h1) (fun h => h2 ((keep_iff t).mp h)) n3 n4 Set.univ _)
      unfold held
      iframe H0 H1 H2 H3 H4 H5 H6 HS HC
      iintro ⟨H0, H1, H2, H3, H4, H5, H6, HS, HC⟩
      isplitl [HS HC Hg]
      · isplitl [HS HC]
        · iexists _, _; isplitr; swap
          · isplitl [HS]; · iexact HS
            iexact HC
          ipureintro
          exact ⟨hmin'.symm ▸ hs', (show min (t.val + 1) 5 = min t.val 5 by omega).symm ▸ hk⟩
        iexact Hg
      iframe Ho H0 H1 H2 H3 H4 H5
      iexists d6; iexact H6
  · have n1 : ¬ k0_cond1 (grid0.coords t) = 1#1 := fun h => h1 ((first_iff t).mp h)
    have n2 : ¬ k0_cond2 (grid0.coords t) = 1#1 := fun h => by have := (keep_iff t).mp h; omega
    have hmin : min (t.val + 1) 25 = min t.val 25 := by omega
    have hmin5 : min (t.val + 1) 5 = min t.val 5 := by omega
    by_cases h4 : 45 ≤ t.val
    · rw [leaves_6 m c t (by omega)]
      iintro ⟨⟨⟨%s, %k, %hsk, HS, HC⟩, Hg⟩, Ho, ⟨%d0, H0⟩, ⟨%d1, H1⟩, ⟨%d2, H2⟩, ⟨%d3, H3⟩, ⟨%d4, H4⟩, ⟨%d5, H5⟩, ⟨%d6, H6⟩⟩
      obtain ⟨hs, hk⟩ := hsk
      have eo : outTile m c t = k0_pay4 (VecWindow.window k (k0_off3 (grid0.coords t)) S1x400x10000.size (k0_off3_inb (grid0.coords t) ((kept_iff t).mpr h4))) s (iblk m c 4 t) := by
        rw [keptTo_window m t h4 (by omega) hk, builtTo_full m hs (by omega)]
        unfold outTile; rw [if_pos h4]
      iapply (run_out_kept c (grid0.coords t) (stg0 t) (hstg0 t) (stg1 t) (hstg1 t) (stg2 t) (hstg2 t) (stg3 t) (hstg3 t) (stg4 t) (hstg4 t) (stg5 t) (hstg5 t) (stg6 t) (hstg6 t) scS (Memref.isWhole_whole _) scC (Memref.isWhole_whole _) (iblk m c 0 t) (iblk m c 1 t) (iblk m c 2 t) (iblk m c 3 t) (iblk m c 4 t) (iblk m c 5 t) ((data m 0 c).before 6 t d6) s k n1 n2 (fun h => by have := (fetched_iff t).mp h; omega) ((kept_iff t).mpr h4) Set.univ _)
      unfold held
      iframe H0 H1 H2 H3 H4 H5 H6 HS HC
      iintro ⟨H0, H1, H2, H3, H4, H5, H6, HS, HC⟩
      isplitl [HS HC Hg]
      · isplitl [HS HC]
        · iexists _, _; isplitr; swap
          · isplitl [HS]; · iexact HS
            iexact HC
          ipureintro
          exact ⟨hmin.symm ▸ hs, hmin5.symm ▸ hk⟩
        iexact Hg
      iframe Ho H0 H1 H2 H3 H4 H5
      rw [eo]; iexact H6
    · rw [leaves_6 m c t (by omega)]
      iintro ⟨⟨⟨%s, %k, %hsk, HS, HC⟩, Hg⟩, Ho, ⟨%d0, H0⟩, ⟨%d1, H1⟩, ⟨%d2, H2⟩, ⟨%d3, H3⟩, ⟨%d4, H4⟩, ⟨%d5, H5⟩, ⟨%d6, H6⟩⟩
      obtain ⟨hs, hk⟩ := hsk
      have eo : outTile m c t = k0_pay3 (iblk m c 5 t) s (iblk m c 4 t) := by
        rw [builtTo_full m hs (by omega)]
        unfold outTile; rw [if_neg h4]
      iapply (run_out_fetched c (grid0.coords t) (stg0 t) (hstg0 t) (stg1 t) (hstg1 t) (stg2 t) (hstg2 t) (stg3 t) (hstg3 t) (stg4 t) (hstg4 t) (stg5 t) (hstg5 t) (stg6 t) (hstg6 t) scS (Memref.isWhole_whole _) scC (Memref.isWhole_whole _) (iblk m c 0 t) (iblk m c 1 t) (iblk m c 2 t) (iblk m c 3 t) (iblk m c 4 t) (iblk m c 5 t) ((data m 0 c).before 6 t d6) s k n1 n2 ((fetched_iff t).mpr ⟨by omega, by omega⟩) (fun h => h4 ((kept_iff t).mp h)) Set.univ _)
      unfold held
      iframe H0 H1 H2 H3 H4 H5 H6 HS HC
      iintro ⟨H0, H1, H2, H3, H4, H5, H6, HS, HC⟩
      isplitl [HS HC Hg]
      · isplitl [HS HC]
        · iexists _, _; isplitr; swap
          · isplitl [HS]; · iexact HS
            iexact HC
          ipureintro
          exact ⟨hmin.symm ▸ hs, hmin5.symm ▸ hk⟩
        iexact Hg
      iframe Ho H0 H1 H2 H3 H4 H5
      rw [eo]; iexact H6

/-- The body table's row at point `t`'s slots is the body. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (data (F := F) m 0 c) (defs₀ (F := F)) Variants.none () Set.univ := fun t => by
  rw [bigSep_W0, bigSep_W0, row_eq]
  exact triple_restated (body_at m c t) rfl .rfl fun _ => .rfl

/-! ## The run -/

/-- The kit's invariant gives the first one (nothing is built yet), -/
theorem carried_first (c : Dev nD) : (Pipeline.ΦA spec0 c : sProp 𝕄) ⊢ (data m 0 c).Φ 0 := by
  rw [kit_inv_eq, show (data m 0 c).Φ 0 = carried m c 0 from rfl]
  unfold carried
  iintro ⟨⟨⟨%s, HS⟩, ⟨%k, HC⟩⟩, Hg⟩
  isplitl [HS HC]
  · iexists s, k; isplitr
    · ipureintro
      exact ⟨fun y h => absurd h (by omega), fun y _ h => absurd h (by omega)⟩
    isplitl [HS]; · iexact HS
    iexact HC
  iexact Hg
/-- and the last one gives it back. -/
theorem carried_last (c : Dev nD) : (data m 0 c).Φ (Fin.last cfg0.N) ⊢ (Pipeline.ΦA spec0 c : sProp 𝕄) := by
  rw [kit_inv_eq, show (data m 0 c).Φ (Fin.last cfg0.N) = carried m c cfg0.N from rfl]
  unfold carried
  iintro ⟨⟨%s, %k, %h, HS, HC⟩, Hg⟩
  isplitl [HS HC]
  · isplitl [HS]; · iexists s; iexact HS
    iexists k; iexact HC
  iexact Hg

set_option backward.isDefEq.respectTransparency.types false in
set_option maxHeartbeats 800000 in
/-- Every run ends, with the arrays the proof data computes and every semaphore counter at zero. -/
theorem run_all : θ_run defs (onTc (τ := τ) (main (F := F))) (s₀ m ρ) (fun r => Pipeline.FramePost cfgs (data m) 0 (Pipeline.afterTail₀ cfgs (data m) 0 (V0 m) [hostOps1]) r ∧ r.2.sem = fun _ => 0) :=
  Pipeline.θ_run_frame_around_track (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := data_A m) (hin := carried_first m) (hout := carried_last m)

end Cert.KernelIdeal.Hand

end
-- ==== Proof.Frames.lean ====
/- What every run of the idealized kernel leaves of the arguments and the counters, and the same of the reference. -/
module

public import proofs.«01_k».proof.Proof.Launched
public import proofs.«01_k».proof.Proof.Gen.ReferenceIdeal.Run

@[expose] public section

noncomputable section

open Idealize.ShloMosaic Idealize.ShloMosaic.TcCoe Idealize.SL.Sem

namespace Cert.KernelIdeal.Hand
open Cert.KernelIdeal Cert.KernelIdeal.Gen
variable {F : FTy → Type} [FloatOps F]

/-- The idealized kernel ends every run with its arguments unchanged and every counter at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (data m) (data_A m) ((θ_run defs _ _).mono (fun _ h => h.1) (run_all m ρ)))
    ((θ_run defs _ _).mono (fun _ h => h.2) (run_all m ρ))

end Cert.KernelIdeal.Hand

namespace Cert.ReferenceIdeal.Hand
open Cert.ReferenceIdeal Cert.ReferenceIdeal.Gen
variable {F : FTy → Type} [FloatOps F]

/-- The reference ends every run with its arguments unchanged; it declares no semaphore, so every counter is zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2, sem_eq_zero_of_no_sems (by decide) r.2⟩) (Value.run m ρ)

end Cert.ReferenceIdeal.Hand

end
-- ==== Proof.Same.lean ====
/- The printed kernel and the idealized kernel are the same program (no operation was rewritten), so a fact about every
   run of the one is a fact about every run of the other. -/
module

public import proofs.«01_k».proof.Proof.Frames
public import proofs.«01_k».proof.Proof.Gen.Kernel

@[expose] public section

noncomputable section

namespace Cert.Same

open Idealize.ShloMosaic Idealize.ShloMosaic.TcCoe Idealize.SL.Sem
variable {F : FTy → Type} [FloatOps F]

/-- The kernel's body is the idealized kernel's body. -/
theorem body_eq : Cert.Kernel.cc0__body (F := F) = Cert.KernelIdeal.cc0__body (F := F) := rfl

/-- The body tables agree: the one label runs the one body. -/
theorem table_eq : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- The whole body tables agree. -/
theorem defs_eq : Cert.Kernel.defs (F := F) = Cert.KernelIdeal.defs (F := F) :=
  congrArg (Pipeline.defs Cert.KernelIdeal.pcfgs) table_eq

/-- The entry functions agree. -/
theorem main_eq : Cert.Kernel.main (F := F) = Cert.KernelIdeal.main (F := F) := rfl

open Cert.Kernel in
/-- The kernel ends every run with its arguments unchanged and every counter at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact Cert.KernelIdeal.Hand.frame_all m ρ

end Cert.Same

end
-- ==== Proof.Payloads.lean ====
/- What each value the kernel's body stores is, read at an index, over the extended reals. -/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

/-- The row maximum as the kernel folds it. -/
def rowMax (o : Fin 64 → EReal) : EReal := Finset.univ.fold max (Ideal.ofBits .f32 0xFF800000#32) o

/-- The log-softmax of one row as the kernel computes it: the entry less the sum of the maximum and the logarithm. -/
def soft (o : Fin 64 → EReal) (j : Fin 64) : EReal :=
  o j - (rowMax o + Ideal.log (∑ l, Ideal.exp (o l - rowMax o)))

/-- The hidden tile at row `r`, class `j`. -/
theorem pay1_at (a : FVec Ideal S400x10000 .f32) (x : FVec Ideal S10000x256 .f32) (w : FVec Ideal S256x256 .f32)
    (b : FVec Ideal S1x256 .f32) (u : FVec Ideal S256x64 .f32) (r : Fin 400) (j : Fin 64) :
    k0_pay1 (F := Ideal) a x w b u (ix2 r j)
      = ∑ h : Fin 256, max ((∑ k : Fin 256, (∑ l : Fin 10000, a (ix2 r l) * x (ix2 l k)) * w (ix2 k h)) + b (ix2 0 h)) 0
          * u (ix2 h j) := by
  pointwise [k0_pay1]

/-- The kept tile at row `r`, column `l`: the adjacency entry scaled. -/
theorem pay2_at (a : FVec Ideal S400x10000 .f32) (r : Fin 400) (l : Fin 10000) :
    k0_pay2 (F := Ideal) a (ix3 0 r l) = a (ix2 r l) * Ideal.ofBits .f32 0x46000000#32 := by
  pointwise [k0_pay2]

/-- The output tile computed from the adjacency's own rows. -/
theorem pay3_at (a : FVec Ideal S400x10000 .f32) (s : FVec Ideal S10000x64 .bf16) (b : FVec Ideal S1x64 .f32)
    (r : Fin 400) (j : Fin 64) :
    k0_pay3 (F := Ideal) a s b (ix2 r j)
      = soft (fun c => (∑ l : Fin 10000, a (ix2 r l) * s (ix2 l c)) + b (ix2 0 c)) j := by
  pointwise [k0_pay3, soft, rowMax]

/-- The output tile computed from a kept tile. -/
theorem pay4_at (a : FVec Ideal S1x400x10000 .fp8e4m3) (s : FVec Ideal S10000x64 .bf16) (b : FVec Ideal S1x64 .f32)
    (r : Fin 400) (j : Fin 64) :
    k0_pay4 (F := Ideal) a s b (ix2 r j)
      = soft (fun c => (∑ l : Fin 10000, a (ix3 0 r l) * s (ix2 l c)) * Ideal.ofBits .f32 0x39000000#32 + b (ix2 0 c)) j := by
  pointwise [k0_pay4, soft, rowMax]

end Cert.KernelIdeal.Hand

end
-- ==== Proof.Blocks.lean ====
/- The blocks the pipeline stages, at the entries of the argument arrays, and what the two scratches hold. -/
module

public import proofs.«01_k».proof.Proof.Launched
public import proofs.«01_k».proof.Proof.Payloads
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The argument arrays at their literal types. -/
abbrev argX : FVec Ideal S10000x256 .f32 := m ((c : Thread nD τ).loc main_arg0)
abbrev argA : FVec Ideal S10000x10000 .f32 := m ((c : Thread nD τ).loc main_arg1)
abbrev argW : FVec Ideal S256x256 .f32 := m ((c : Thread nD τ).loc main_arg4)
abbrev argB : FVec Ideal S256 .f32 := m ((c : Thread nD τ).loc main_arg5)
abbrev argU : FVec Ideal S256x64 .f32 := m ((c : Thread nD τ).loc main_arg6)
abbrev argD : FVec Ideal S64 .f32 := m ((c : Thread nD τ).loc main_arg7)

/-- The tile of the adjacency fetched at point `n`. -/
def fetched (n : ℕ) : ℕ := if n < 25 then n else if n < 45 then 49 - n else 5

/-- Every window's block index, in closed form. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![fetched t.val, 0]
    ∧ win0_6.index t = ![if t.val < 25 then 24 else 49 - t.val, 0] :=
  (by decide +kernel : ∀ t : Fin grid0.N, _)

theorem fetched_lt (n : ℕ) : fetched n < 25 := by unfold fetched; split_ifs <;> omega

/-- The features are staged whole, -/
theorem blk_x (t : Fin cfg0.N) : iblk m c 0 t = argX m c := by blk_ext! [iblk, V, idx t]
/-- as are the first weights -/
theorem blk_w (t : Fin cfg0.N) : iblk m c 1 t = argW m c := by blk_ext! [iblk, V, idx t]
/-- and the second. -/
theorem blk_u (t : Fin cfg0.N) : iblk m c 3 t = argU m c := by blk_ext! [iblk, V, idx t]

/-- The first bias is staged as one row. -/
theorem blk_b (t : Fin cfg0.N) (h : Fin 256) : (show FVec Ideal S1x256 .f32 from iblk m c 2 t) (ix2 0 h) = argB m c (ix1 h) := by
  have e : iblk m c 2 t = V m c main_v0 := by blk_ext! [iblk, idx t]
  have e' : V m c main_v0 = shapeCast S1x256 (argB m c) shapeCasts_S256_S1x256 := by
    show StableHlo.after (List.flatten [hostOps0]) _ _ = _
    simp only [hostOps0, List.flatten_cons, List.flatten_nil, List.append_nil]
    after_results; rfl
  rw [e, e']; pointwise
/-- The second bias is staged as one row. -/
theorem blk_d (t : Fin cfg0.N) (j : Fin 64) : (show FVec Ideal S1x64 .f32 from iblk m c 4 t) (ix2 0 j) = argD m c (ix1 j) := by
  have e : iblk m c 4 t = V m c main_v1 := by blk_ext! [iblk, idx t]
  have e' : V m c main_v1 = shapeCast S1x64 (argD m c) shapeCasts_S64_S1x64 := by
    show StableHlo.after (List.flatten [hostOps0]) _ _ = _
    simp only [hostOps0, List.flatten_cons, List.flatten_nil, List.append_nil]
    after_results; rfl
  rw [e, e']; pointwise
/-- The adjacency is staged by tiles of 400 rows. -/
theorem blk_a (t : Fin cfg0.N) (r : Fin 400) (l : Fin 10000) : (show FVec Ideal S400x10000 .f32 from iblk m c 5 t) (ix2 r l)
    = argA m c (ix2 ⟨400 * fetched t.val + r.val, by have := fetched_lt t.val; omega⟩ l) := by
  blk_point [iblk, V, idx t]

end Cert.KernelIdeal.Hand

end
-- ==== Proof.RefRead.lean ====
/- The reference's first result read at an index, over the extended reals. -/
module

public import proofs.«01_k».proof.Proof.Gen.ReferenceIdeal.Read
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read

variable (x : FVec Ideal S10000x256 .f32) (a : FVec Ideal S10000x10000 .f32) (w : FVec Ideal S256x256 .f32)
  (b : FVec Ideal S256 .f32) (u : FVec Ideal S256x64 .f32) (d : FVec Ideal S64 .f32)

/-- The hidden layer's product with the second weights, row `r`, class `j`. -/
def second (r : Fin 10000) (j : Fin 64) : EReal :=
  ∑ h : Fin 256, max ((∑ l : Fin 10000, a (ix2 r l) * ∑ k : Fin 256, x (ix2 l k) * w (ix2 k h)) + b (ix1 h)) 0 * u (ix2 h j)

/-- The reference's second support at row `r`, class `j`, is the double sum named above. -/
theorem second_at (r : Fin 10000) (j : Fin 64) : val_main_v7 (F := Ideal) x a w b u (ix2 r j) = second x a w b u r j := by
  pointwise [val_main_v7, val_main_v5, val_main_v4, val_main_v1, val_main_v0, val_main_v3, val_main_v2, val_main_call0_v0,
    val_main_call0_cst, second]

/-- The row of scores of vertex `r`. -/
def scores (r : Fin 10000) (j : Fin 64) : EReal :=
  (∑ l : Fin 10000, a (ix2 r l) * second x a w b u l j) + d (ix1 j)

/-- The reference's scores, before the log-softmax, at row `r`, class `j`. -/
theorem scores_at (r : Fin 10000) (j : Fin 64) : val_main_v11 (F := Ideal) x a w b u d (ix2 r j) = scores x a w b u d r j := by
  pointwise [val_main_v11, val_main_v8, val_main_v10, val_main_v9, second_at, scores]

/-- The row maximum as the reference computes it. -/
def top (o : Fin 64 → EReal) : EReal :=
  max (Ideal.ofBits .f32 0xFF800000#32) (Finset.univ.fold max (Ideal.ofBits .f32 0xFF800000#32) o)

/-- The reference's first result at row `r`, class `j`: the score less the row maximum, less the logarithm of the sum of exponentials. -/
theorem result_at (r : Fin 10000) (j : Fin 64) : val_main_v12 (F := Ideal) x a w b u d (ix2 r j)
    = (scores x a w b u d r j - top (scores x a w b u d r))
      - Ideal.log (∑ l, Ideal.exp (scores x a w b u d r l - top (scores x a w b u d r))) := by
  pointwise [val_main_v12, val_main_call1_v5, val_main_call1_v4, val_main_call1_v3, val_main_call1_v2, val_main_call1_v1,
    val_main_call1_v0, val_main_call1_v10, val_main_call1_v9, val_main_call1_v8, val_main_call1_v7, val_main_call1_v6,
    val_main_call1_cst, val_main_call1_cst_0, val_main_call1_cst_1, scores_at, top]

end Cert.ReferenceIdeal.Hand

end
-- ==== Proof.Reals.lean ====
/- The arithmetic of the value claim, on extended reals that are finite: a product of three matrices associates, a
   factor pulled through a contraction and its reciprocal cancel, and the two spellings of a row's log-softmax agree.
   Nothing here mentions a program. -/
module

public import Idealize.ShloMosaic.PureOps.Ideal.Laws

@[expose] public section

noncomputable section

namespace Cert.Reals

open Idealize.ShloMosaic
open scoped BigOperators

/-- An extended real that is a real number. -/
def IsReal (a : EReal) : Prop := ∃ r : ℝ, a = (r : EReal)

theorem isReal_coe (r : ℝ) : IsReal (r : EReal) := ⟨r, rfl⟩
theorem isReal_zero : IsReal (0 : EReal) := ⟨0, rfl⟩

/-- The real numbers inside the extended reals are closed under addition, -/
theorem IsReal.add {a b : EReal} : IsReal a → IsReal b → IsReal (a + b) := by
  rintro ⟨r, rfl⟩ ⟨s, rfl⟩; exact ⟨r + s, rfl⟩
/-- under multiplication, -/
theorem IsReal.mul {a b : EReal} : IsReal a → IsReal b → IsReal (a * b) := by
  rintro ⟨r, rfl⟩ ⟨s, rfl⟩; exact ⟨r * s, (EReal.coe_mul r s).symm⟩
/-- under the maximum, -/
theorem IsReal.max {a b : EReal} : IsReal a → IsReal b → IsReal (Max.max a b) := by
  intro ha hb; rcases max_choice a b with h | h <;> rw [h] <;> assumption
/-- and under finite sums. -/
theorem IsReal.sum {n : ℕ} {f : Fin n → EReal} (h : ∀ i, IsReal (f i)) : IsReal (∑ i, f i) :=
  Finset.sum_induction f IsReal (fun _ _ => IsReal.add) isReal_zero fun i _ => h i

/-- An extended real whose absolute value is below infinity is a real number. -/
theorem isReal_of_abs_lt {a : EReal} (h : Max.max a (-a) < ⊤) : IsReal a := by
  induction a with
  | bot => simp at h
  | top => simp at h
  | coe r => exact ⟨r, rfl⟩

/-- A finite sum of real numbers is the same sum taken among the extended reals. -/
theorem coe_sum {n : ℕ} (f : Fin n → ℝ) : ((∑ i, f i : ℝ) : EReal) = ∑ i, (f i : EReal) :=
  map_sum (⟨⟨Real.toEReal, rfl⟩, EReal.coe_add⟩ : ℝ →+ EReal) f Finset.univ

/-- A row times a matrix times a column associates, when every entry is finite. -/
theorem row_mat_col {n p : ℕ} (a : Fin n → EReal) (x : Fin n → Fin p → EReal) (w : Fin p → EReal)
    (ha : ∀ l, IsReal (a l)) (hx : ∀ l k, IsReal (x l k)) (hw : ∀ k, IsReal (w k)) :
    ∑ k, (∑ l, a l * x l k) * w k = ∑ l, a l * ∑ k, x l k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun _ _ => Finset.sum_congr rfl fun _ _ => mul_assoc _ _ _

/-- Scaling every entry of a row by `p` and the contraction by `q` with `p q = 1` changes nothing, when every entry is
    finite. -/
theorem scaled_dot {n : ℕ} (a s : Fin n → EReal) (ha : ∀ l, IsReal (a l)) (hs : ∀ l, IsReal (s l)) {p q : ℝ} (h : p * q = 1) :
    (∑ l, a l * (p : EReal) * s l) * (q : EReal) = ∑ l, a l * s l := by
  choose a' ha using ha
  choose s' hs using hs
  simp only [ha, hs, ← EReal.coe_mul, ← coe_sum]
  refine congrArg _ ?_
  rw [Finset.sum_mul]
  refine Finset.sum_congr rfl fun l _ => ?_
  linear_combination (a' l * s' l) * h

/-- The exponential of a real number is the real exponential. -/
theorem exp_coe (r : ℝ) : Ideal.exp (r : EReal) = (Real.exp r : EReal) := rfl
/-- The logarithm of a positive real number is the real logarithm. -/
theorem log_coe {r : ℝ} (h : 0 < r) : Ideal.log (r : EReal) = (Real.log r : EReal) := if_neg (not_le.2 h)

/-- The maximum of a nonempty finite row, folded from minus infinity, is a real number. -/
theorem isReal_fold_max {n : ℕ} (o : Fin (n + 1) → EReal) (h : ∀ j, IsReal (o j)) :
    IsReal (Finset.univ.fold Max.max ⊥ o) := by
  have key : ∀ s : Finset (Fin (n + 1)), s.fold Max.max ⊥ o = ⊥ ∨ IsReal (s.fold Max.max ⊥ o) := fun s => by
    induction s using Finset.induction_on with
    | empty => exact .inl rfl
    | insert i s hi ih =>
      rw [Finset.fold_insert hi]
      rcases ih with ih | ih
      · rw [ih, max_bot_right]; exact .inr (h i)
      · exact .inr ((h i).max ih)
  rcases key Finset.univ with hb | hr
  · have h0 : o 0 ≤ Finset.univ.fold Max.max ⊥ o := (Finset.le_fold_max _).2 (.inr ⟨0, Finset.mem_univ _, le_rfl⟩)
    obtain ⟨r, hr⟩ := h 0
    rw [hb, hr] at h0
    exact absurd (le_bot_iff.1 h0) (EReal.coe_ne_bot r)
  · exact hr

/-- Subtracting the maximum and the logarithm together is subtracting them in turn, for a finite row: the two spellings
    of its log-softmax agree. -/
theorem log_softmax {n : ℕ} (o : Fin (n + 1) → EReal) (M : EReal) (h : ∀ j, IsReal (o j)) (hM : IsReal M) (j : Fin (n + 1)) :
    o j - (M + Ideal.log (∑ l, Ideal.exp (o l - M))) = (o j - M) - Ideal.log (∑ l, Ideal.exp (o l - M)) := by
  obtain ⟨M', rfl⟩ := hM
  choose o' ho using h
  have hs : 0 < ∑ l, Real.exp (o' l - M') := Finset.sum_pos (fun _ _ => Real.exp_pos _) Finset.univ_nonempty
  simp only [ho, ← EReal.coe_sub, exp_coe, ← coe_sum, log_coe hs, ← EReal.coe_add]
  exact congrArg _ (sub_sub _ _ _).symm

/-- The pattern the kernel multiplies the adjacency by is the real 8192. -/
theorem ofBits_8192 : Ideal.ofBits .f32 0x46000000#32 = ((8192 : ℝ) : EReal) := by
  simp [Ideal.ofBits, Ideal.ieee, -EReal.coe_mul]; norm_num
/-- The pattern the kernel multiplies the contraction by is the real 1 / 8192. -/
theorem ofBits_inv_8192 : Ideal.ofBits .f32 0x39000000#32 = ((1 / 8192 : ℝ) : EReal) := by
  simp [Ideal.ofBits, Ideal.ieee, -EReal.coe_mul]; norm_num
/-- The pattern the maximum starts from is minus infinity. -/
theorem ofBits_neg_inf : Ideal.ofBits .f32 0xFF800000#32 = ⊥ := by simp [Ideal.ofBits, Ideal.ieee]
/-- The pattern the precondition compares with is infinity. -/
theorem ofBits_inf : Ideal.ofBits .f32 0x7F800000#32 = ⊤ := by simp [Ideal.ofBits, Ideal.ieee]

end Cert.Reals

end
-- ==== Proof.KernelValue.lean ====
/- The kernel's first result is the reference's, entry by entry, when every entry of the float arguments is finite. -/
module

public import proofs.«01_k».proof.Proof.Blocks
public import proofs.«01_k».proof.Proof.RefRead
public import proofs.«01_k».proof.Proof.Reals

@[expose] public section

set_option maxRecDepth 16384

noncomputable section

namespace Cert.KernelIdeal.Hand

open Idealize.ShloMosaic Idealize.ShloMosaic.TcCoe Idealize.SL.Sem
open Cert.KernelIdeal Cert.KernelIdeal.Gen Cert.Reals
open Cert.ReferenceIdeal.Hand (second scores top)

variable (m : (ℓ : Loc nD τ sig) → Buf (Elt Ideal) ℓ) (c : Dev nD)

/-- Every entry of the six float arguments that the formula reads is a real number. -/
structure Real : Prop where
  x : ∀ i, IsReal (argX m c i)
  a : ∀ i, IsReal (argA m c i)
  w : ∀ i, IsReal (argW m c i)
  b : ∀ i, IsReal (argB m c i)
  u : ∀ i, IsReal (argU m c i)
  d : ∀ i, IsReal (argD m c i)

/-- The reference's hidden product over this core's arguments. -/
abbrev sec (l : Fin 10000) (j : Fin 64) : EReal := second (argX m c) (argA m c) (argW m c) (argB m c) (argU m c) l j
/-- The reference's scores over this core's arguments. -/
abbrev sco (r : Fin 10000) (j : Fin 64) : EReal :=
  scores (argX m c) (argA m c) (argW m c) (argB m c) (argU m c) (argD m c) r j

variable {m c}

/-- The hidden product is finite, -/
theorem Real.sec (H : Real m c) (l : Fin 10000) (j : Fin 64) : IsReal (sec m c l j) :=
  IsReal.sum fun h => ((((IsReal.sum fun l' => (H.a _).mul (IsReal.sum fun k => (H.x _).mul (H.w _))).add (H.b _)).max isReal_zero)).mul (H.u _)
/-- and so are the scores. -/
theorem Real.sco (H : Real m c) (r : Fin 10000) (j : Fin 64) : IsReal (sco m c r j) :=
  (IsReal.sum fun l => (H.a _).mul (H.sec l j)).add (H.d _)

/-- The first scratch fills with the reference's hidden product. -/
theorem hidden_at (H : Real m c) (l : Fin 10000) (j : Fin 64) : hidden m c (ix2 l j) = sec m c l j := by
  have hl := l.isLt
  refine (pay1_at (iblk m c 5 _) (iblk m c 0 _) (iblk m c 1 _) (iblk m c 2 _) (iblk m c 3 _) _ j).trans ?_
  rw [blk_x, blk_w, blk_u]
  refine Finset.sum_congr rfl fun h _ => ?_
  refine congrArg₂ (· * ·) (congrArg₂ max (congrArg₂ (· + ·) ?_ (blk_b m c _ h)) rfl) rfl
  refine Eq.trans ?_ (row_mat_col (fun l' => argA m c (ix2 l l')) (fun l' k => argX m c (ix2 l' k)) (fun k => argW m c (ix2 k h))
    (fun _ => H.a _) (fun _ _ => H.x _) (fun _ => H.w _))
  refine Finset.sum_congr rfl fun k _ => congrArg (· * _) (Finset.sum_congr rfl fun l' _ => congrArg (· * _) ?_)
  refine (blk_a m c _ _ l').trans (congrArg (fun q => argA m c (ix2 q l')) (Fin.ext ?_))
  show 400 * fetched (l.val / 400) + l.val % 400 = l.val
  unfold fetched
  rw [if_pos (by omega)]; omega

/-- The row of the output that row `r` of point `t`'s tile is. -/
theorem row_out_lt (t : Fin cfg0.N) (ht : 25 ≤ t.val) (r : Fin 400) : 400 * (49 - t.val) + r.val < 10000 := by
  have := r.isLt; omega

/-- What the body leaves at a point of the second pass, before the log-softmax of each row: the reference's scores. -/
theorem outTile_at (H : Real m c) (t : Fin cfg0.N) (ht : 25 ≤ t.val) (r : Fin 400) (j : Fin 64) :
    outTile m c t (ix2 r j) = soft (sco m c ⟨400 * (49 - t.val) + r.val, row_out_lt t ht r⟩) j := by
  have hN := lt_fifty t
  unfold outTile
  split_ifs with h45
  · refine (pay4_at _ (hidden m c) (iblk m c 4 t) r j).trans (congrArg (soft · j) (funext fun q => ?_))
    refine congrArg₂ (· + ·) ?_ (blk_d m c t q)
    have e : ∀ l : Fin 10000, tileC m c (pt (49 - t.val) (by omega)) (ix3 0 r l)
        = argA m c (ix2 ⟨400 * (49 - t.val) + r.val, row_out_lt t ht r⟩ l) * ((8192 : ℝ) : EReal) := fun l => by
      refine (pay2_at (iblk m c 5 _) r l).trans (congrArg₂ (· * ·) ?_ ofBits_8192)
      refine (blk_a m c _ r l).trans (congrArg (fun q => argA m c (ix2 q l)) (Fin.ext ?_))
      show 400 * fetched (49 - t.val) + r.val = _
      unfold fetched
      rw [if_pos (by omega)]
    refine Eq.trans (congrArg₂ (· * ·) (Finset.sum_congr rfl fun l _ => congrArg₂ (· * ·) (e l) (hidden_at H l q)) ofBits_inv_8192) ?_
    exact scaled_dot (fun l => argA m c (ix2 _ l)) (fun l => sec m c l q) (fun _ => H.a _) (fun l => H.sec l q) (by norm_num)
  · refine (pay3_at (iblk m c 5 t) (hidden m c) (iblk m c 4 t) r j).trans (congrArg (soft · j) (funext fun q => ?_))
    refine congrArg₂ (· + ·) (Finset.sum_congr rfl fun l _ => congrArg₂ (· * ·) ?_ (hidden_at H l q)) (blk_d m c t q)
    refine (blk_a m c _ r l).trans (congrArg (fun q => argA m c (ix2 q l)) (Fin.ext ?_))
    show 400 * fetched t.val + r.val = _
    unfold fetched
    rw [if_neg (by omega), if_pos (by omega)]

/-- The kernel's log-softmax of a finite row is the reference's. -/
theorem soft_eq (o : Fin 64 → EReal) (h : ∀ j, IsReal (o j)) (j : Fin 64) :
    soft o j = (o j - top o) - Ideal.log (∑ l, Ideal.exp (o l - top o)) := by
  have e : top o = rowMax o := by unfold top rowMax; rw [ofBits_neg_inf]; exact max_bot_left _
  rw [e]
  exact log_softmax (n := 63) o (rowMax o) h (by unfold rowMax; rw [ofBits_neg_inf]; exact isReal_fold_max o h) j

/-- The reference's first result over this core's arguments. -/
abbrev ref (m : (ℓ : Loc nD τ sig) → Buf (Elt Ideal) ℓ) (c : Dev nD) : FVec Ideal S10000x64 .f32 :=
  Cert.ReferenceIdeal.Read.val_main_v12 (F := Ideal) (argX m c) (argA m c) (argW m c) (argB m c) (argU m c) (argD m c)

/-- The second pass is exactly the points that write the output back. -/
theorem flush_late : ∀ t : Fin cfg0.N, (cfg0.win 6).flush t = true → 25 ≤ t.val :=
  (by decide +kernel : ∀ t : Fin grid0.N, win0_6.flush t = true → 25 ≤ t.val)

/-- The output array after the run is the reference's first result. -/
theorem final (H : Real m c) : (data m 0 c).arrAt 6 cfg0.N = ref m c := by
  refine (data m 0 c).arrAt_eq_of_covers 6 (ref m c) (by decide +kernel) fun t hf y => ?_
  have ht := flush_late t hf
  blk_simp
  rw [after_6]
  have he : ((cfg0.win 6).blk t).view.emb y = ix2 (n0 := 10000) (n1 := 64) ⟨400 * (49 - t.val) + (y 0).val, row_out_lt t ht (y 0)⟩ (y 1) := by
    have e6 : win0_6.index t = ![49 - t.val, 0] := by rw [(idx t).2.2.2.2.2.2, if_neg (by omega)]
    blk_ext [e6]
  rw [he]
  refine (congrArg (outTile m c t) (eq_ix2 (n0 := 400) (n1 := 64) y)).trans ?_
  refine (outTile_at H t ht (y 0) (y 1)).trans ((soft_eq _ (fun q => H.sco _ q) (y 1)).trans ?_)
  exact (Cert.ReferenceIdeal.Hand.result_at _ _ _ _ _ _ _ _).symm

end Cert.KernelIdeal.Hand

end
-- ==== Proof.Finite.lean ====
/- The precondition read: every entry of the six float arguments is a real number. -/
module

public import proofs.«01_k».proof.Defs
public import proofs.«01_k».proof.Proof.Gen.Pre_finite
public import proofs.«01_k».proof.Proof.KernelValue
public import Idealize.ShloMosaic.Lib.IdealHost

@[expose] public section

noncomputable section

namespace Cert.KernelIdeal.Hand

open Idealize.ShloMosaic Idealize.ShloMosaic.TcCoe Idealize.SL.Sem
open Cert.Reals

/-- An array whose absolute values all compare below infinity holds real numbers. -/
theorem isReal_of_below {s : Shape} (x : FVec Ideal s .f32) (h : (⟨0, ![]⟩ : Shape).BroadcastsInDim s ![])
    (e : cmpf .olt (Host.absf x) (broadcastInDim s ![] h (constant (F := Ideal) ⟨0, ![]⟩ .f32 0x7F800000#32)) = fun _ => 1#1) (i : s.Idx) :
    IsReal (x i) := by
  have q := congrFun e i
  change Ideal.cmp .olt (max (x i) (-(x i))) (broadcastInDim s ![] h (constant (F := Ideal) ⟨0, ![]⟩ .f32 0x7F800000#32) i) = 1#1 at q
  rw [ValueIdx.broadcastInDim_scalar_apply] at q
  change Ideal.cmp .olt (max (x i) (-(x i))) (Ideal.ofBits .f32 0x7F800000#32) = 1#1 at q
  rw [ofBits_inf] at q
  refine isReal_of_abs_lt (by_contra fun hn => ?_)
  simp [Ideal.cmp, hn] at q

/-- The claim's precondition says that the arguments are finite. -/
theorem real_of_pre {m : (ℓ : Loc Cert.KernelIdeal.nD Cert.KernelIdeal.τ Cert.KernelIdeal.sig) → Buf (Elt Ideal) ℓ}
    (h : Cert.Pre_KernelIdeal_finite m) (c : Dev Cert.KernelIdeal.nD) : Real m c where
  x := isReal_of_below _ _ (h c).1
  a := isReal_of_below _ _ (h c).2.1
  w := isReal_of_below _ _ (h c).2.2.1
  b := isReal_of_below _ _ (h c).2.2.2.1
  u := isReal_of_below _ _ (h c).2.2.2.2.1
  d := isReal_of_below _ _ (h c).2.2.2.2.2

end Cert.KernelIdeal.Hand

end
-- ==== Proof.Result.lean ====
/- What a run of the idealized kernel returns: the two arrays, as the reference states them. -/
module

public import proofs.«01_k».proof.Proof.KernelValue
public import proofs.«01_k».proof.Proof.Frames
public import Idealize.ShloMosaic.Lib.IdealHost

@[expose] public section

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The second result is the column of ones, which the host writes after the kernel. -/
theorem ones (c : Dev nD) : Pipeline.afterTail₀ cfgs (data m) 0 (V0 m) [hostOps1] c main_v3
    = constant (F := Ideal) S10000x1 .f32 0x3F800000#32 := by
  show StableHlo.after (List.flatten [hostOps1]) _ _ = _
  simp only [hostOps1, List.flatten_cons, List.flatten_nil, List.append_nil]
  after_results
  exact funext fun i => ValueIdx.broadcastInDim_scalar_apply _ _ i

/-- On finite arguments every run of the idealized kernel ends with the reference's two results, arguments unchanged. -/
theorem run_value (H : ∀ c, Real m c) :
    θ_run defs (onTc (τ := τ) (main (F := Ideal))) ⟨m, fun _ => 0, ρ⟩ (fun r => ∀ c : Dev nD,
      r.2.mem ((c.tc : Thread nD τ).loc main_v2) = ref m c
      ∧ r.2.mem ((c.tc : Thread nD τ).loc main_v3)
        = constant (F := Ideal) S10000x1 .f32 0x3F800000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨(Pipeline.FramePost.out_eq h.1.1 c 6).trans (final (H c)),
      (Pipeline.FramePost.rest_eq h.1.1 c main_v3 (by decide)).trans (ones m c), h.2.1 c⟩)
    (θ_run_and (run_all m ρ) (frame_all m ρ))

end Cert.KernelIdeal.Hand

end
-- ==== Proof.lean ====
/- The certificate assembled: the frames, `preserves`, and the equality of both results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Same
public import proofs.«01_k».proof.Proof.Finite
public import proofs.«01_k».proof.Proof.Result
public import Idealize.ShloMosaic.Adequacy
public import Idealize.ShloMosaic.Init

@[expose] public section

noncomputable section

namespace Cert.Proof

open Idealize.ShloMosaic Idealize.SL.Sem Cert.Kernel

/-- On finite arguments the idealized kernel and the reference return the same two arrays. -/
theorem algebraic : Cert.algebraic_KernelIdeal_ReferenceIdeal_pre_finite := by
  intro m g m' g' hpre hagree
  refine ⟨fun c => Cert.KernelIdeal.Hand.ref m c, fun _ => constant (F := Ideal) Cert.KernelIdeal.S10000x1 .f32 0x3F800000#32,
    Cert.KernelIdeal.Hand.run_value m g (Cert.KernelIdeal.Hand.real_of_pre hpre),
    (θ_run Cert.ReferenceIdeal.defs _ _).mono (fun _ h c => ⟨(h c).1.trans ?_, (h c).2.1.trans ?_, (h c).2.2⟩)
      (Cert.ReferenceIdeal.Value.run m' g')⟩
  · obtain ⟨h0, h1, -, -, h4, h5, h6, h7⟩ := hagree c
    rw [Cert.ReferenceIdeal.Read.val_main_v12_eq, h0, h1, h4, h5, h6, h7]
  · exact funext fun i => ValueIdx.broadcastInDim_scalar_apply _ _ i

/-- Everything claimed. -/
theorem claim : Cert.Claim := ⟨Cert.Kernel.Gen.facts, Cert.KernelIdeal.Gen.facts, Cert.ReferenceIdeal.Gen.facts, Cert.Pre_finite.Gen.facts,
  fun m g _ => Cert.Same.frame_all m g,
  fun m g _ => Cert.KernelIdeal.Hand.frame_all m g, fun m g _ => Cert.KernelIdeal.Hand.frame_all m g,
  fun m g _ => Cert.ReferenceIdeal.Hand.frame_all m g, fun m g _ => Cert.ReferenceIdeal.Hand.frame_all m g, trivial, algebraic⟩

end Cert.Proof

end
